-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_order [hPre_ids_in_order : Cert.Pre_ids_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_order [hPre_ids_in_order : Cert.Pre_ids_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ids_in_order [hKernelIdeal : Cert.KernelIdeal.Facts] [hPre_ids_in_order : Cert.Pre_ids_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_order [hReferenceIdeal : Cert.ReferenceIdeal.Facts] [hPre_ids_in_order : Cert.Pre_ids_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ids_in_order [hKernelIdeal : Cert.KernelIdeal.Facts] [hReferenceIdeal : Cert.ReferenceIdeal.Facts] [hPre_ids_in_order : Cert.Pre_ids_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_order : Cert.Pre_ids_in_order.Facts),
    quiescent_Kernel (hKernel := hKernel)
    ∧ quiescent_KernelIdeal (hKernelIdeal := hKernelIdeal)
    ∧ quiescent_KernelIdeal_pre_ids_in_order (hKernelIdeal := hKernelIdeal) (hPre_ids_in_order := hPre_ids_in_order)
    ∧ quiescent_ReferenceIdeal (hReferenceIdeal := hReferenceIdeal)
    ∧ quiescent_ReferenceIdeal_pre_ids_in_order (hReferenceIdeal := hReferenceIdeal) (hPre_ids_in_order := hPre_ids_in_order)
    ∧ preserves_Kernel_KernelIdeal
    ∧ algebraic_KernelIdeal_ReferenceIdeal_pre_ids_in_order (hKernelIdeal := hKernelIdeal) (hReferenceIdeal := hReferenceIdeal) (hPre_ids_in_order := hPre_ids_in_order)
-- ==== Pre_ids_in_order.lean ====
abbrev S100000x128 : Shape := ⟨2, ![100000, 128]⟩
abbrev S128x512 : Shape := ⟨2, ![128, 512]⟩
abbrev S512 : Shape := ⟨1, ![512]⟩
abbrev S100000 : Shape := ⟨1, ![100000]⟩
abbrev S_ : Shape := ⟨0, ![]⟩

class Facts : Prop where
  reducesTo_S100000_S_d0 : S100000.ReducesTo [0] S_
  h_S_ : 0 < S_.numel

variable [Facts]

def fn {F : FTy → Type} [FloatOps F] (main_arg0 : FVec F S100000x128 .f32) (main_arg1 : FVec F S128x512 .f32) (main_arg2 : FVec F S512 .f32) (main_arg3 : IVec S100000 32) : IVec S_ 1 :=
  let main_v0 : IVec S100000 32 := iotaInDim S100000 32 0
  let main_v1 : IVec S100000 1 := cmpi .eq main_arg3 main_v0
  let main_c : IVec S_ 1 := constantI S_ 1 1#1
  let main_v2 : IVec S_ 1 := (fun x v => Host.reduce IntOp.andi x v reducesTo_S100000_S_d0 h_S_) main_v1 main_c
  main_v2
-- ==== Kernel.lean ====
abbrev S100000x128 : Shape := ⟨2, ![100000, 128]⟩
abbrev S128x512 : Shape := ⟨2, ![128, 512]⟩
abbrev S512 : Shape := ⟨1, ![512]⟩
abbrev S100000 : Shape := ⟨1, ![100000]⟩
abbrev S1x512 : Shape := ⟨2, ![1, 512]⟩
abbrev S100000x512 : Shape := ⟨2, ![100000, 512]⟩
abbrev S10000x128 : Shape := ⟨2, ![10000, 128]⟩
abbrev S10000x512 : Shape := ⟨2, ![10000, 512]⟩

abbrev nBuf : Space → Nat
  | .hbm => 6
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S128x512, .f32⟩
  | .hbm, ⟨2, _⟩ => ⟨S512, .f32⟩
  | .hbm, ⟨3, _⟩ => ⟨S100000, .i32⟩
  | .hbm, ⟨4, _⟩ => ⟨S1x512, .f32⟩
  | .hbm, ⟨5, _⟩ => ⟨S100000x512, .f32⟩
  | .local _ .vmem, ⟨0, _⟩ => ⟨S10000x128, .f32⟩
  | .local _ .vmem, ⟨1, _⟩ => ⟨S10000x128, .f32⟩
  | .local _ .vmem, ⟨2, _⟩ => ⟨S128x512, .f32⟩
  | .local _ .vmem, ⟨3, _⟩ => ⟨S1x512, .f32⟩
  | .local _ .vmem, ⟨4, _⟩ => ⟨S10000x512, .f32⟩
  | .local _ .vmem, ⟨5, _⟩ => ⟨S10000x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S100000x128 : Shape := ⟨2, ![100000, 128]⟩
abbrev S128x512 : Shape := ⟨2, ![128, 512]⟩
abbrev S512 : Shape := ⟨1, ![512]⟩
abbrev S100000 : Shape := ⟨1, ![100000]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x512 : Shape := ⟨2, ![100000, 512]⟩
abbrev S1x512 : Shape := ⟨2, ![1, 512]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x512, .f32⟩
  | .hbm, ⟨2, _⟩ => ⟨S512, .f32⟩
  | .hbm, ⟨3, _⟩ => ⟨S100000, .i32⟩
  | .hbm, ⟨4, _⟩ => ⟨S_, .i32⟩
  | .hbm, ⟨5, _⟩ => ⟨S100000, .i32⟩
  | .hbm, ⟨6, _⟩ => ⟨S100000, .i1⟩
  | .hbm, ⟨7, _⟩ => ⟨S_, .i32⟩
  | .hbm, ⟨8, _⟩ => ⟨S100000, .i32⟩
  | .hbm, ⟨9, _⟩ => ⟨S100000, .i32⟩
  | .hbm, ⟨10, _⟩ => ⟨S100000, .i32⟩
  | .hbm, ⟨11, _⟩ => ⟨S100000x1, .i32⟩
  | .hbm, ⟨12, _⟩ => ⟨S1, .i32⟩
  | .hbm, ⟨13, _⟩ => ⟨S_, .i32⟩
  | .hbm, ⟨14, _⟩ => ⟨S100000x1, .i32⟩
  | .hbm, ⟨15, _⟩ => ⟨S100000x1, .i1⟩
  | .hbm, ⟨16, _⟩ => ⟨S1x1, .i32⟩
  | .hbm, ⟨17, _⟩ => ⟨S100000x1, .i32⟩
  | .hbm, ⟨18, _⟩ => ⟨S100000x1, .i1⟩
  | .hbm, ⟨19, _⟩ => ⟨S100000x1, .i1⟩
  | .hbm, ⟨20, _⟩ => ⟨S_, .i1⟩
  | .hbm, ⟨21, _⟩ => ⟨S100000, .i1⟩
  | .hbm, ⟨22, _⟩ => ⟨S100000x128, .f32⟩
  | .hbm, ⟨23, _⟩ => ⟨S100000x128, .i1⟩
  | .hbm, ⟨24, _⟩ => ⟨S_, .f32⟩
  | .hbm, ⟨25, _⟩ => ⟨S100000x128, .f32⟩
  | .hbm, ⟨26, _⟩ => ⟨S100000x128, .f32⟩
  | .hbm, ⟨27, _⟩ => ⟨S100000x512, .f32⟩
  | .hbm, ⟨28, _⟩ => ⟨S1x512, .f32⟩
  | .hbm, ⟨29, _⟩ => ⟨S100000x512, .f32⟩
  | .hbm, ⟨30, _⟩ => ⟨S100000x512, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.Projection.lean ====
/- The function both programs are shown to compute: the rows of a table times a weight matrix, plus a bias row. -/
module

public import Idealize.ShloMosaic.PureOps
public import Idealize.ShloMosaic.PureOps.Ideal
public import Idealize.ShloMosaic.Lib.ValueIdx

@[expose] public section

noncomputable section

namespace Cert.Projection

open Idealize.ShloMosaic Idealize.ShloMosaic.ValueIdx

/-- Entry `(r, q)` of the projected table: the sum over the 128 features of the table's row `r` times the weights' column
    `q`, plus the bias at `q`, over the extended reals. -/
def projected (table : FVec Ideal ⟨2, ![100000, 128]⟩ .f32) (weights : FVec Ideal ⟨2, ![128, 512]⟩ .f32)
    (bias : FVec Ideal ⟨1, ![512]⟩ .f32) : FVec Ideal ⟨2, ![100000, 512]⟩ .f32 :=
  fun i => (∑ k : Fin 128, table (ix2 (i 0) k) * weights (ix2 k (i 1))) + bias (ix1 (i 1))

end Cert.Projection

end
-- ==== Proof.KernelSide.lean ====
/- The kernel's side: the array the pipelined kernel leaves is the projected table. Grid point `t` multiplies rows
   `10000 t … 10000 t + 9999` of the table by the weights, adds the bias row, and writes these rows of the result; the ten
   row blocks fill the array. -/
module

public import proofs.«01_k».proof.Proof.Projection
public import proofs.«01_k».proof.Proof.Gen.KernelIdeal.Value
public import Idealize.ShloMosaic.Lib.MatmulPlain
public import Idealize.ShloMosaic.Lib.ValueLayout
public import Idealize.ShloMosaic.Lib.StableHlo.Run

@[expose] public section

noncomputable section

namespace Cert.KernelIdeal.Projected

open Cert.KernelIdeal Cert.KernelIdeal.Gen Cert.Projection
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The offset pair `(0, 0)` is the zero offset on every axis. -/
theorem offsets_zero : (![0, 0] : Fin 2 → Nat) = fun _ => 0 := funext fun a => by fin_cases a <;> rfl

/-- What one grid point stores, entry by entry: row `p` of its table block times column `q` of the weights, plus the bias
    row at `q`. -/
theorem stored_apply (x : Vec Ideal S10000x128 .f32) (w : Vec Ideal S128x512 .f32) (b : Vec Ideal S1x512 .f32)
    (p : Fin 10000) (q : Fin 512) :
    out0_3 x w b (ix2 p q) = (∑ k : Fin 128, x (ix2 p k) * w (ix2 k q)) + b (ix2 (0 : Fin 1) q) := by
  unfold out0_3
  rw [View.canon_unit_zero offsets_zero, View.ld_unit_zero offsets_zero, View.ld_unit_zero offsets_zero,
    View.ld_unit_zero offsets_zero]
  unfold k0_pay1
  rw [addf_apply, shapeCast_self]
  congr 1
  · refine (Ideal.matmul_plain_apply none x w _ p q).trans ?_
    rw [constant_apply, Ideal.ofBits_zero_f32, zero_add]
  · exact broadcastTo_1b_ab_apply b _ p q

/-- The bias row the kernel's third window stages is the bias vector laid out as one row. -/
theorem bias_row (c : Dev nD) (q : Fin 512) :
    V m c main_v0 (ix2 (0 : Fin 1) q) = m ((c : Thread nD τ).loc main_arg2) (ix1 q) := by
  have e : V m c main_v0 = shapeCast S1x512 (m ((c : Thread nD τ).loc main_arg2)) shapeCasts_S512_S1x512 := by
    show StableHlo.after hostOps0 (fun b => m (c, b)) main_v0 = _
    after_results <;> rfl
  rw [e]
  exact shapeCast_a_1a_apply _ _ 0 q

/-- Where each window stands at each grid point: the table and the result at row block `t`, the weights and the bias row at
    their one block. -/
theorem where_at : ∀ t : Fin cfg0.N,
    (win0_0.index t 0 = t.val ∧ win0_0.index t 1 = 0) ∧ (win0_1.index t 0 = 0 ∧ win0_1.index t 1 = 0)
      ∧ (win0_2.index t 0 = 0 ∧ win0_2.index t 1 = 0) ∧ (win0_3.index t 0 = t.val ∧ win0_3.index t 1 = 0) := by
  intro t
  rcases fin_N0 t with rfl | rfl | rfl | rfl | rfl | rfl | rfl | rfl | rfl | rfl <;> decide +kernel

/-- Row `p` of the table's block at point `t` is the table's row `10000 t + p`. -/
theorem table_block (c : Dev nD) (t : Fin cfg0.N) (p : Fin 10000) (k : Fin 128) (r : Fin 100000)
    (hr : r.val = t.val * 10000 + p.val) :
    iblk m c 0 t (ix2 p k) = m ((c : Thread nD τ).loc main_arg0) (ix2 r k) := by
  unfold iblk
  rw [View.read_apply]
  show V m c main_arg0 _ = _
  rw [V_main_arg0]
  congr 1
  funext a
  apply Fin.ext
  have h := (where_at t).1
  match a with
  | ⟨0, _⟩ => show win0_0.index t 0 * 10000 + 1 * p.val = r.val
              rw [h.1]; omega
  | ⟨1, _⟩ => show win0_0.index t 1 * 128 + 1 * k.val = k.val
              rw [h.2]; omega

/-- The weights' block is the whole weight matrix at every point. -/
theorem weights_block (c : Dev nD) (t : Fin cfg0.N) (k : Fin 128) (q : Fin 512) :
    iblk m c 1 t (ix2 k q) = m ((c : Thread nD τ).loc main_arg1) (ix2 k q) := by
  unfold iblk
  rw [View.read_apply]
  show V m c main_arg1 _ = _
  rw [V_main_arg1]
  congr 1
  funext a
  apply Fin.ext
  have h := (where_at t).2.1
  match a with
  | ⟨0, _⟩ => show win0_1.index t 0 * 128 + 1 * k.val = k.val
              rw [h.1]; omega
  | ⟨1, _⟩ => show win0_1.index t 1 * 512 + 1 * q.val = q.val
              rw [h.2]; omega

/-- The bias row's block is the whole bias at every point. -/
theorem bias_block (c : Dev nD) (t : Fin cfg0.N) (q : Fin 512) :
    iblk m c 2 t (ix2 (0 : Fin 1) q) = m ((c : Thread nD τ).loc main_arg2) (ix1 q) := by
  rw [← bias_row m c q]
  unfold iblk
  rw [View.read_apply]
  show V m c main_v0 _ = _
  congr 1
  funext a
  apply Fin.ext
  have h := (where_at t).2.2.1
  match a with
  | ⟨0, _⟩ => show win0_2.index t 0 * 1 + 1 * 0 = 0
              rw [h.1]
  | ⟨1, _⟩ => show win0_2.index t 1 * 512 + 1 * q.val = q.val
              rw [h.2]; omega

/-- The projected table of device `c`'s arguments: what the result array is shown to hold. -/
abbrev result (c : Dev nD) : Buf (Elt Ideal) ((c : Thread nD τ).loc main_v1) :=
  projected (m ((c : Thread nD τ).loc main_arg0)) (m ((c : Thread nD τ).loc main_arg1)) (m ((c : Thread nD τ).loc main_arg2))

/-- What grid point `t` writes back is row block `t` of the projected table. -/
theorem flushed_eq (c : Dev nD) (t : Fin cfg0.N) :
    (dats m 0 c).flushed 3 t = ((cfg0.win 3).blk t).view.read (Elt Ideal) (result m c) := by
  rw [Value.flushed3]
  refine funext fun (j : S10000x512.Idx) => ?_
  obtain ⟨p, q, rfl⟩ : ∃ (p : Fin 10000) (q : Fin 512), j = ix2 p q := ⟨j 0, j 1, eq_ix2 j⟩
  rw [View.read_apply]
  have hN : cfg0.N = 10 := N_0
  have ht := t.isLt
  have hlt : t.val * 10000 + p.val < 100000 := by have := p.isLt; omega
  have he : ((cfg0.win 3).blk t).view.emb (ix2 p q) = ix2 (⟨t.val * 10000 + p.val, hlt⟩ : Fin 100000) q := by
    funext a
    apply Fin.ext
    have h := (where_at t).2.2.2
    match a with
    | ⟨0, _⟩ => show win0_3.index t 0 * 10000 + 1 * p.val = t.val * 10000 + p.val
                rw [h.1]; omega
    | ⟨1, _⟩ => show win0_3.index t 1 * 512 + 1 * q.val = q.val
                rw [h.2]; omega
  rw [he]
  refine (stored_apply (iblk m c 0 t) (iblk m c 1 t) (iblk m c 2 t) p q).trans ?_
  rw [bias_block]
  show _ = (∑ k : Fin 128, _) + _
  congr 1
  refine Finset.sum_congr rfl fun k _ => ?_
  rw [table_block m c t p k ⟨t.val * 10000 + p.val, hlt⟩ rfl, weights_block]

/-- Every index of the result is in some grid point's block: row `r` in block `r / 10000`. -/
theorem cover (i : S100000x512.Idx) :
    ∃ t : Fin cfg0.N, (cfg0.win 3).flush t = true ∧ i ∈ ((cfg0.win 3).blk t).view.set := by
  have h0 : (i 0 : Nat) < 100000 := (i 0).isLt
  have h1 : (i 1 : Nat) < 512 := (i 1).isLt
  have hN : cfg0.N = 10 := N_0
  have ht : (i 0 : Nat) / 10000 < cfg0.N := by omega
  refine ⟨⟨(i 0 : Nat) / 10000, ht⟩, flush0_3 _, ?_⟩
  have h := (where_at ⟨(i 0 : Nat) / 10000, ht⟩).2.2.2
  show i ∈ ((View.whole main_v1).slice (win0_3.rect ⟨(i 0 : Nat) / 10000, ht⟩)).set
  rw [View.set_slice_whole, Rect.mem_set_unit]
  intro a
  match a with
  | ⟨0, _⟩ => show win0_3.index ⟨(i 0 : Nat) / 10000, ht⟩ 0 * 10000 ≤ (i 0 : Nat)
                ∧ (i 0 : Nat) < win0_3.index ⟨(i 0 : Nat) / 10000, ht⟩ 0 * 10000 + 10000
              rw [h.1]; dsimp only; omega
  | ⟨1, _⟩ => show win0_3.index ⟨(i 0 : Nat) / 10000, ht⟩ 1 * 512 ≤ (i 1 : Nat)
                ∧ (i 1 : Nat) < win0_3.index ⟨(i 0 : Nat) / 10000, ht⟩ 1 * 512 + 512
              rw [h.2]; omega

/-- After the last grid point the result array is the projected table. -/
theorem final (c : Dev nD) : (dats m 0 c).arrAt 3 cfg0.N = result m c :=
  (dats m 0 c).arrAt_eq_of_cover 3 (result m c) (fun t _ => flushed_eq m c t) cover

/-- The kernel's run: it ends with the result array at the projected table and the four arguments as they were. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.Projected

end
-- ==== Proof.ReferenceSide.lean ====
/- The reference's side: when the gene ids are 0, 1, 2, … in order, the reference's row lookup returns the table itself, so
   its result is the projected table. -/
module

public import proofs.«01_k».proof.Defs
public import proofs.«01_k».proof.Proof.Projection
public import proofs.«01_k».proof.Proof.Gen.ReferenceIdeal.Run
public import proofs.«01_k».proof.Proof.Gen.Pre_ids_in_order
public import Idealize.ShloMosaic.Lib.Routing.Ops
public import Idealize.ShloMosaic.Lib.ReduceAll
public import Idealize.ShloMosaic.Lib.StackMember
public import Idealize.ShloMosaic.Lib.StableHlo.Predicate

@[expose] public section

noncomputable section

namespace Cert.ReferenceIdeal.Projected

open Cert.ReferenceIdeal Cert.ReferenceIdeal.Gen Cert.Projection
open Idealize.ShloMosaic Idealize.ShloMosaic.TcCoe Idealize.ShloMosaic.ValueIdx Idealize.SL.Sem

/-- The precondition read back: if it holds, gene id `r` is the word `r`. -/
theorem id_eq (x : FVec Ideal S100000x128 .f32) (w : FVec Ideal S128x512 .f32) (b : FVec Ideal S512 .f32) (ids : IVec S100000 32)
    (h : Cert.Pre_ids_in_order.fn (F := Ideal) x w b ids = fun _ => 1#1) (r : S100000.Idx) :
    ids r = BitVec.ofNat 32 (r 0).val := by
  have e := congrFun h ix0
  unfold Cert.Pre_ids_in_order.fn at e
  dsimp only at e
  haveI : Subsingleton (Cert.Pre_ids_in_order.S_).Idx := ⟨fun a b => funext fun k => k.elim0⟩
  exact StableHlo.Predicate.cmpi_eq_iff.1 (Host.reduce_andi_all _ _ _ _ _ e r)

/-- The row numbers the lookup uses: the ids with 100000 added to the negative ones, as a column. -/
abbrev rows (ids : IVec S100000 32) : IVec S100000x1 32 :=
  broadcastInDim S100000x1 ![0] bcast_S100000_S100000x1_0
    (select (cmpi .slt ids (broadcastInDim S100000 ![] bcast_S_S100000 (constantI S_ 32 0#32)))
      (addi ids (broadcastInDim S100000 ![] bcast_S_S100000 (constantI S_ 32 100000#32))) ids)

/-- Which of the row numbers lie between 0 and 99999. -/
abbrev inside (ids : IVec S100000 32) : IVec S100000 1 :=
  Host.reduce IntOp.andi
    (andi (cmpi .sge (rows ids) (broadcastInDim S100000x1 ![] bcast_S_S100000x1 (constantI S_ 32 0#32)))
      (cmpi .sle (rows ids)
        (broadcastInDim S100000x1 ![0, 1] bcast_S1x1_S100000x1_0_1 (broadcastInDim S1x1 ![1] bcast_S1_S1x1_1 (constantI S1 32 99999#32)))))
    (constantI S_ 1 1#1) reducesTo_S100000x1_S100000_d1 h_S_

/-- The row lookup: the table's rows at the row numbers, a fill value where the row number is outside the table. -/
abbrev looked (x : FVec Ideal S100000x128 .f32) (ids : IVec S100000 32) : FVec Ideal S100000x128 .f32 :=
  select (broadcastInDim S100000x128 ![0] bcast_S100000_S100000x128_0 (inside ids))
    (Host.gather gather_S100000x128_S100000x1_S100000x128_1_0_n_n_0_1_1128 x (rows ids))
    (broadcastInDim S100000x128 ![] bcast_S_S100000x128 (constant S_ .f32 0x7FC00000#32))

variable (x : FVec Ideal S100000x128 .f32) (ids : IVec S100000 32) (hid : ∀ r : S100000.Idx, ids r = BitVec.ofNat 32 (r 0).val)

include hid in
/-- With the ids in order, row number `r` is `r`: no id is negative. -/
theorem rows_apply (j : S100000x1.Idx) : rows ids j = BitVec.ofNat 32 (j 0).val := by
  have hj : (j 0).val < 100000 := (j 0).isLt
  have e0 : rows ids j = select (cmpi .slt ids (broadcastInDim S100000 ![] bcast_S_S100000 (constantI S_ 32 0#32)))
      (addi ids (broadcastInDim S100000 ![] bcast_S_S100000 (constantI S_ 32 100000#32))) ids (ix1 (j 0)) := by
    refine broadcastInDim_apply _ _ _ _ _ fun a => ?_
    fin_cases a; rfl
  rw [e0]
  have hc : cmpi .slt ids (broadcastInDim S100000 ![] bcast_S_S100000 (constantI S_ 32 0#32)) (ix1 (j 0)) ≠ 1#1 := by
    show IntOp.cmpi .slt (ids (ix1 (j 0))) 0#32 ≠ 1#1
    rw [hid, ne_eq, StableHlo.Predicate.slt_iff_toNat (by simp [BitVec.toNat_ofNat]; omega) (by decide)]
    simp
  show (if _ = 1#1 then _ else _) = _
  rw [if_neg hc, hid]

include hid in
/-- With the ids in order every row number is inside the table. -/
theorem inside_apply (i : S100000.Idx) : inside ids i = 1#1 := by
  refine Host.reduce_andi_one _ _ _ _ _ rfl fun j => ?_
  have hj : (j 0).val < 100000 := (j 0).isLt
  have hn : (BitVec.ofNat 32 (j 0).val).toNat = (j 0).val := by rw [BitVec.toNat_ofNat]; omega
  refine IntOp.andi_eq_one.2 ⟨?_, ?_⟩
  · show IntOp.cmpi .sge (rows ids j) 0#32 = 1#1
    rw [rows_apply ids hid, StableHlo.Predicate.sge_iff_toNat (by omega) (by decide)]
    simp
  · show IntOp.cmpi .sle (rows ids j) 99999#32 = 1#1
    rw [rows_apply ids hid, StableHlo.Predicate.sle_iff_toNat (by omega) (by decide), hn]
    show _ ≤ 99999
    omega

include hid in
/-- With the ids in order the lookup returns the table. -/
theorem looked_eq : looked x ids = x := by
  funext j
  obtain ⟨r, k, rfl⟩ : ∃ (r : Fin 100000) (k : Fin 128), j = ix2 r k := ⟨j 0, j 1, eq_ix2 j⟩
  have hm : broadcastInDim S100000x128 ![0] bcast_S100000_S100000x128_0 (inside ids) (ix2 r k) = 1#1 :=
    inside_apply ids hid _
  have hg : Host.gather gather_S100000x128_S100000x1_S100000x128_1_0_n_n_0_1_1128 x (rows ids) (ix2 r k) = x (ix2 r k) :=
    Routing.gather_row _ rfl rfl rfl rfl rfl x (rows ids) r k r (rows_apply ids hid _) (by norm_num)
  rw [looked, ValueIdx.select_apply, hm, ValueIdx.select_one, hg]

/-- The product of the table with the weights plus the bias on every row is the projected table. -/
theorem product_eq (w : FVec Ideal S128x512 .f32) (b : FVec Ideal S512 .f32) :
    addf (Host.dotGeneral dot_S100000x128_S128x512_S100000x512_1_0_0_1_n_n none x w)
      (broadcastInDim S100000x512 ![0, 1] bcast_S1x512_S100000x512_0_1 (broadcastInDim S1x512 ![1] bcast_S512_S1x512_1 b))
      = projected x w b := by
  funext j
  obtain ⟨r, q, rfl⟩ : ∃ (r : Fin 100000) (q : Fin 512), j = ix2 r q := ⟨j 0, j 1, eq_ix2 j⟩
  rw [addf_apply]
  show _ = (∑ k : Fin 128, x (ix2 r k) * w (ix2 k q)) + b (ix1 q)
  congr 1
  · exact StackMember.dotGeneral_plain_apply none x w r q
  · refine (broadcastInDim_apply _ _ _ _ (ix2 (0 : Fin 1) q) fun a => ?_).trans (broadcastInDim_apply _ _ _ _ (ix1 q) fun a => ?_)
    · fin_cases a <;> rfl
    · fin_cases a; rfl

include hid in
/-- With the ids in order, looking the rows up, multiplying by the weights and adding the bias gives the projected table. -/
theorem answer_eq (w : FVec Ideal S128x512 .f32) (b : FVec Ideal S512 .f32) :
    addf (Host.dotGeneral dot_S100000x128_S128x512_S100000x512_1_0_0_1_n_n none (looked x ids) w)
      (broadcastInDim S100000x512 ![0, 1] bcast_S1x512_S100000x512_0_1 (broadcastInDim S1x512 ![1] bcast_S512_S1x512_1 b))
      = projected x w b := by
  rw [looked_eq x ids hid, product_eq]

variable (m : (ℓ : Loc nD τ sig) → Buf (Elt Ideal) ℓ) (ρ : Dev nD → PrngReg)

/-- The reference's run when every device's ids are in order: it ends with the result at the projected table and the four
    arguments as they were. -/
theorem run (hids : ∀ (c : Dev nD) (r : S100000.Idx), m ((c.tc : Thread nD τ).loc main_arg3) r = BitVec.ofNat 32 (r 0).val) :
    θ_run defs (onTc (τ := τ) (main (F := Ideal))) ⟨m, fun _ => 0, ρ⟩ fun r => ∀ c : Dev nD,
      r.2.mem ((c.tc : Thread nD τ).loc main_v4) = projected (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (answer_eq _ _ (hids c) _ _), (h c).2⟩)
    (Value.run m ρ)

end Cert.ReferenceIdeal.Projected

end
-- ==== Proof.lean ====
module

public import proofs.«01_k».proof.Defs
public import proofs.«01_k».proof.Proof.Gen.Kernel.Frame
public import proofs.«01_k».proof.Proof.Gen.KernelIdeal.Frame
public import proofs.«01_k».proof.Proof.KernelSide
public import proofs.«01_k».proof.Proof.ReferenceSide
public import Idealize.ShloMosaic.Lib.Quiescent

@[expose] public section

noncomputable section

namespace Cert.Proof

open Idealize.ShloMosaic Idealize.ShloMosaic.TcCoe Idealize.SL.Sem

/-- The idealized reference runs to the end from every memory, leaves its arguments as they were and every semaphore at
    zero. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- On the same arguments, with the gene ids in order, the idealized kernel and the idealized reference end with the same
    result: the projected table. -/
theorem same_result : Cert.algebraic_KernelIdeal_ReferenceIdeal_pre_ids_in_order := by
  intro m g m' g' hpre hsame
  refine ⟨Cert.KernelIdeal.Projected.result m, Cert.KernelIdeal.Projected.run m g, ?_⟩
  have hids : ∀ (c : Dev Cert.ReferenceIdeal.nD) (r : Cert.ReferenceIdeal.S100000.Idx),
      m' ((c.tc : Thread Cert.ReferenceIdeal.nD Cert.ReferenceIdeal.τ).loc Cert.ReferenceIdeal.main_arg3) r
        = BitVec.ofNat 32 (r 0).val := fun c r =>
    (congrFun (hsame c).2.2.2 r).trans (Cert.ReferenceIdeal.Projected.id_eq _ _ _ _ (hpre c) r)
  refine (θ_run Cert.ReferenceIdeal.defs _ _).mono (fun r h c => ⟨(h c).1.trans ?_, (h c).2⟩)
    (Cert.ReferenceIdeal.Projected.run m' g' hids)
  obtain ⟨e0, e1, e2, _⟩ := hsame c
  rw [e0, e1, e2]

/-- Every claim of the certificate. -/
theorem claim : Cert.Claim :=
  ⟨Cert.Kernel.Gen.facts, Cert.KernelIdeal.Gen.facts, Cert.ReferenceIdeal.Gen.facts, Cert.Pre_ids_in_order.Gen.facts,
    fun m g _ => Cert.Kernel.Gen.frame m g, fun m g _ => Cert.KernelIdeal.Gen.frame m g,
    fun m g _ => Cert.KernelIdeal.Gen.frame m g, reference_frame, fun m g _ => reference_frame m g trivial, trivial,
    same_result⟩

end Cert.Proof

end
